-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ones_and_finite [hPre_ones_and_finite : Cert.Pre_ones_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ones_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ones_and_finite [hPre_ones_and_finite : Cert.Pre_ones_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ones_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_ones_and_finite [hKernelIdeal : Cert.KernelIdeal.Facts] [hPre_ones_and_finite : Cert.Pre_ones_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ones_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_ones_and_finite [hReferenceIdeal : Cert.ReferenceIdeal.Facts] [hPre_ones_and_finite : Cert.Pre_ones_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ones_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_ones_and_finite [hKernelIdeal : Cert.KernelIdeal.Facts] [hReferenceIdeal : Cert.ReferenceIdeal.Facts] [hPre_ones_and_finite : Cert.Pre_ones_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ones_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_ones_and_finite : Cert.Pre_ones_and_finite.Facts),
    quiescent_Kernel (hKernel := hKernel)
    ∧ quiescent_KernelIdeal (hKernelIdeal := hKernelIdeal)
    ∧ quiescent_KernelIdeal_pre_ones_and_finite (hKernelIdeal := hKernelIdeal) (hPre_ones_and_finite := hPre_ones_and_finite)
    ∧ quiescent_ReferenceIdeal (hReferenceIdeal := hReferenceIdeal)
    ∧ quiescent_ReferenceIdeal_pre_ones_and_finite (hReferenceIdeal := hReferenceIdeal) (hPre_ones_and_finite := hPre_ones_and_finite)
    ∧ preserves_Kernel_KernelIdeal
    ∧ algebraic_KernelIdeal_ReferenceIdeal_pre_ones_and_finite (hKernelIdeal := hKernelIdeal) (hReferenceIdeal := hReferenceIdeal) (hPre_ones_and_finite := hPre_ones_and_finite)
-- ==== Pre_ones_and_finite.lean ====
abbrev S2048x256 : Shape := ⟨2, ![2048, 256]⟩
abbrev S2048 : Shape := ⟨1, ![2048]⟩
abbrev S256x1024 : Shape := ⟨2, ![256, 1024]⟩
abbrev S1024 : Shape := ⟨1, ![1024]⟩
abbrev S1024x256 : Shape := ⟨2, ![1024, 256]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S256x1024 .f32) (main_arg7 : FVec F S1024 .f32) (main_v12 : IVec S_ 1) (main_v15 : IVec S1024 1) (main_c_5 : IVec S_ 1) : IVec S_ 1 :=
  let main_v16 : IVec S_ 1 := (fun x v => Host.reduce IntOp.andi x v reducesTo_S1024_S_d0 h_S_) main_v15 main_c_5
  let main_v17 : IVec S_ 1 := andi main_v12 main_v16
  let main_v18 : FVec F S256x1024 .f32 := Host.absf main_arg6
  let main_cst_6 : FVec F S_ .f32 := constant S_ .f32 0x7F800000#32
  let main_v19 : FVec F S256x1024 .f32 := broadcastInDim S256x1024 ![] bcast_S_S256x1024 main_cst_6
  let main_v20 : IVec S256x1024 1 := cmpf .olt main_v18 main_v19
  let main_c_7 : IVec S_ 1 := constantI S_ 1 1#1
  let main_v21 : IVec S_ 1 := (fun x v => Host.reduce IntOp.andi x v reducesTo_S256x1024_S_d0_1 h_S_) main_v20 main_c_7
  let main_v22 : IVec S_ 1 := andi main_v17 main_v21
  let main_v23 : FVec F S1024 .f32 := Host.absf main_arg7
  let main_cst_8 : FVec F S_ .f32 := constant S_ .f32 0x7F800000#32
  let main_v24 : FVec F S1024 .f32 := broadcastInDim S1024 ![] bcast_S_S1024 main_cst_8
  let main_v25 : IVec S1024 1 := cmpf .olt main_v23 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v22 main_v26
  main_v27

def fn {F : FTy → Type} [FloatOps F] (main_arg0 : FVec F S2048x256 .f32) (main_arg1 : IVec S2048 32) (main_arg2 : FVec F S256x1024 .f32) (main_arg3 : FVec F S1024 .f32) (main_arg4 : FVec F S1024 .f32) (main_arg5 : FVec F S1024x256 .f32) (main_arg6 : FVec F S256x1024 .f32) (main_arg7 : FVec F S1024 .f32) (main_arg8 : FVec F S1024 .f32) (main_arg9 : FVec F S1024x256 .f32) : IVec S_ 1 :=
  let main_c : IVec S_ 32 := constantI S_ 32 1#32
  let main_v0 : IVec S2048 32 := broadcastInDim S2048 ![] bcast_S_S2048 main_c
  let main_v1 : IVec S2048 1 := cmpi .eq main_arg1 main_v0
  let main_c_0 : IVec S_ 1 := constantI S_ 1 1#1
  let main_v2 : IVec S_ 1 := (fun x v => Host.reduce IntOp.andi x v reducesTo_S2048_S_d0 h_S_) main_v1 main_c_0
  let main_v3 : FVec F S2048x256 .f32 := Host.absf main_arg0
  let main_cst : FVec F S_ .f32 := constant S_ .f32 0x7F800000#32
  let main_v4 : FVec F S2048x256 .f32 := broadcastInDim S2048x256 ![] bcast_S_S2048x256 main_cst
  let main_v5 : IVec S2048x256 1 := cmpf .olt main_v3 main_v4
  let main_c_1 : IVec S_ 1 := constantI S_ 1 1#1
  let main_v6 : IVec S_ 1 := (fun x v => Host.reduce IntOp.andi x v reducesTo_S2048x256_S_d0_1 h_S_) main_v5 main_c_1
  let main_v7 : IVec S_ 1 := andi main_v2 main_v6
  let main_v8 : FVec F S256x1024 .f32 := Host.absf main_arg2
  let main_cst_2 : FVec F S_ .f32 := constant S_ .f32 0x7F800000#32
  let main_v9 : FVec F S256x1024 .f32 := broadcastInDim S256x1024 ![] bcast_S_S256x1024 main_cst_2
  let main_v10 : IVec S256x1024 1 := cmpf .olt main_v8 main_v9
  let main_c_3 : IVec S_ 1 := constantI S_ 1 1#1
  let main_v11 : IVec S_ 1 := (fun x v => Host.reduce IntOp.andi x v reducesTo_S256x1024_S_d0_1 h_S_) main_v10 main_c_3
  let main_v12 : IVec S_ 1 := andi main_v7 main_v11
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg6 main_arg7 main_v12 main_v15 main_c_5
-- ==== Kernel.lean ====
abbrev S2048x256 : Shape := ⟨2, ![2048, 256]⟩
abbrev S2048 : Shape := ⟨1, ![2048]⟩
abbrev S256x1024 : Shape := ⟨2, ![256, 1024]⟩
abbrev S1024 : Shape := ⟨1, ![1024]⟩
abbrev S1024x256 : Shape := ⟨2, ![1024, 256]⟩
abbrev S256 : Shape := ⟨1, ![256]⟩
abbrev S1x256 : Shape := ⟨2, ![1, 256]⟩
abbrev S2048x1024 : Shape := ⟨2, ![2048, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S2048x256, .f32⟩
  | .hbm, ⟨1, _⟩ => ⟨S2048, .i32⟩
  | .hbm, ⟨2, _⟩ => ⟨S256x1024, .f32⟩
  | .hbm, ⟨3, _⟩ => ⟨S1024, .f32⟩
  | .hbm, ⟨4, _⟩ => ⟨S1024, .f32⟩
  | .hbm, ⟨5, _⟩ => ⟨S1024x256, .f32⟩
  | .hbm, ⟨6, _⟩ => ⟨S256x1024, .f32⟩
  | .hbm, ⟨7, _⟩ => ⟨S1024, .f32⟩
  | .hbm, ⟨8, _⟩ => ⟨S1024, .f32⟩
  | .hbm, ⟨9, _⟩ => ⟨S1024x256, .f32⟩
  | .hbm, ⟨10, _⟩ => ⟨S2048x256, .f32⟩
  | .local _ .vmem, ⟨0, _⟩ => ⟨S2048x256, .f32⟩
  | .local _ .vmem, ⟨1, _⟩ => ⟨S256x1024, .f32⟩
  | .local _ .vmem, ⟨2, _⟩ => ⟨S1024, .f32⟩
  | .local _ .vmem, ⟨3, _⟩ => ⟨S1024, .f32⟩
  | .local _ .vmem, ⟨4, _⟩ => ⟨S1024x256, .f32⟩
  | .local _ .vmem, ⟨5, _⟩ => ⟨S256x1024, .f32⟩
  | .local _ .vmem, ⟨6, _⟩ => ⟨S1024, .f32⟩
  | .local _ .vmem, ⟨7, _⟩ => ⟨S1024, .f32⟩
  | .local _ .vmem, ⟨8, _⟩ => ⟨S1024x256, .f32⟩
  | .local _ .vmem, ⟨9, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2048x256 : Shape := ⟨2, ![2048, 256]⟩
abbrev S2048 : Shape := ⟨1, ![2048]⟩
abbrev S256x1024 : Shape := ⟨2, ![256, 1024]⟩
abbrev S1024 : Shape := ⟨1, ![1024]⟩
abbrev S1024x256 : Shape := ⟨2, ![1024, 256]⟩
abbrev S1 : Shape := ⟨1, ![1]⟩
abbrev S2047 : Shape := ⟨1, ![2047]⟩
abbrev S_ : Shape := ⟨0, ![]⟩
abbrev S2048x1 : Shape := ⟨2, ![2048, 1]⟩
abbrev S1x1 : Shape := ⟨2, ![1, 1]⟩
abbrev S2048x1024 : Shape := ⟨2, ![2048, 1024]⟩
abbrev S1x1024 : Shape := ⟨2, ![1, 1024]⟩

abbrev nBuf : Space → Nat
  | .hbm => 181
  | .vmem => 0
  | .smem => 0
  | _ => 0

abbrev hbmTy0_0 (i : Nat) : BufTy := match i % 128 with
  | 0 => ⟨S2048x256, .f32⟩
  | 1 => ⟨S2048, .i32⟩
  | 2 => ⟨S256x1024, .f32⟩
  | 3 => ⟨S1024, .f32⟩
  | 4 => ⟨S1024, .f32⟩
  | 5 => ⟨S1024x256, .f32⟩
  | 6 => ⟨S256x1024, .f32⟩
  | 7 => ⟨S1024, .f32⟩
  | 8 => ⟨S1024, .f32⟩
  | 9 => ⟨S1024x256, .f32⟩
  | 10 => ⟨S2048, .i32⟩
  | 11 => ⟨S1, .i32⟩
  | 12 => ⟨S2047, .i32⟩
  | 13 => ⟨S2048, .i32⟩
  | 14 => ⟨S_, .i32⟩
  | 15 => ⟨S1, .i32⟩
  | 16 => ⟨S_, .i32⟩
  | 17 => ⟨S2048, .i32⟩
  | 18 => ⟨S_, .i32⟩
  | 19 => ⟨S_, .i32⟩
  | 20 => ⟨S2048, .i32⟩
  | 21 => ⟨S_, .i32⟩
  | 22 => ⟨S2048, .i32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S_, .i32⟩
  | 32 => ⟨S2048, .i32⟩
  | 33 => ⟨S2048, .i32⟩
  | 34 => ⟨S_, .i32⟩
  | 35 => ⟨S_, .i32⟩
  | 36 => ⟨S2048, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i1⟩
  | 43 => ⟨S_, .i32⟩
  | 44 => ⟨S2048, .i32⟩
  | 45 => ⟨S2048, .i32⟩
  | 46 => ⟨S2048, .i32⟩
  | 47 => ⟨S2048x1, .i32⟩
  | 48 => ⟨S1, .i32⟩
  | 49 => ⟨S_, .i32⟩
  | 50 => ⟨S2048x1, .i32⟩
  | 51 => ⟨S2048x1, .i1⟩
  | 52 => ⟨S1x1, .i32⟩
  | 53 => ⟨S2048x1, .i32⟩
  | 54 => ⟨S2048x1, .i1⟩
  | 55 => ⟨S2048x1, .i1⟩
  | 56 => ⟨S_, .i1⟩
  | 57 => ⟨S2048, .i1⟩
  | 58 => ⟨S2048, .i32⟩
  | 59 => ⟨S_, .i32⟩
  | 60 => ⟨S2048, .i32⟩
  | 61 => ⟨S2048, .i32⟩
  | 62 => ⟨S_, .f32⟩
  | 63 => ⟨S2048x256, .f32⟩
  | 64 => ⟨S2048x1, .i32⟩
  | 65 => ⟨S2048x256, .f32⟩
  | 66 => ⟨S2048, .f32⟩
  | 67 => ⟨S2048x1, .f32⟩
  | 68 => ⟨S2048x256, .f32⟩
  | 69 => ⟨S2048x256, .f32⟩
  | 70 => ⟨S2048x1024, .f32⟩
  | 71 => ⟨S_, .f32⟩
  | 72 => ⟨S1024, .f32⟩
  | 73 => ⟨S_, .f32⟩
  | 74 => ⟨S1024, .f32⟩
  | 75 => ⟨S1024, .f32⟩
  | 76 => ⟨S1x1024, .f32⟩
  | 77 => ⟨S2048x1024, .f32⟩
  | 78 => ⟨S2048x1024, .f32⟩
  | 79 => ⟨S2048x1024, .f32⟩
  | 80 => ⟨S_, .f32⟩
  | 81 => ⟨S1024, .f32⟩
  | 82 => ⟨S_, .f32⟩
  | 83 => ⟨S1024, .f32⟩
  | 84 => ⟨S1024, .f32⟩
  | 85 => ⟨S1x1024, .f32⟩
  | 86 => ⟨S2048x1024, .f32⟩
  | 87 => ⟨S2048x1024, .f32⟩
  | 88 => ⟨S_, .f32⟩
  | 89 => ⟨S1024, .f32⟩
  | 90 => ⟨S1024, .f32⟩
  | 91 => ⟨S1024, .f32⟩
  | 92 => ⟨S1x1024, .f32⟩
  | 93 => ⟨S2048x1024, .f32⟩
  | 94 => ⟨S2048x1024, .f32⟩
  | 95 => ⟨S1x1024, .f32⟩
  | 96 => ⟨S2048x1024, .f32⟩
  | 97 => ⟨S2048x1024, .f32⟩
  | 98 => ⟨S1x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S2048x256, .f32⟩
  | 105 => ⟨S_, .f32⟩
  | 106 => ⟨S2048x256, .f32⟩
  | 107 => ⟨S2048x256, .f32⟩
  | 108 => ⟨S2048x1024, .f32⟩
  | 109 => ⟨S_, .f32⟩
  | 110 => ⟨S1024, .f32⟩
  | 111 => ⟨S_, .f32⟩
  | 112 => ⟨S1024, .f32⟩
  | 113 => ⟨S1024, .f32⟩
  | 114 => ⟨S1x1024, .f32⟩
  | 115 => ⟨S2048x1024, .f32⟩
  | 116 => ⟨S2048x1024, .f32⟩
  | 117 => ⟨S2048x1024, .f32⟩
  | 118 => ⟨S_, .f32⟩
  | 119 => ⟨S1024, .f32⟩
  | 120 => ⟨S_, .f32⟩
  | 121 => ⟨S1024, .f32⟩
  | 122 => ⟨S1024, .f32⟩
  | 123 => ⟨S1x1024, .f32⟩
  | 124 => ⟨S2048x1024, .f32⟩
  | 125 => ⟨S2048x1024, .f32⟩
  | 126 => ⟨S_, .f32⟩
  | 127 => ⟨S1024, .f32⟩
  | _ => ⟨S2048x256, .f32⟩

abbrev hbmTy0_1 (i : Nat) : BufTy := match i % 128 with
  | 0 => ⟨S1024, .f32⟩
  | 1 => ⟨S1024, .f32⟩
  | 2 => ⟨S1x1024, .f32⟩
  | 3 => ⟨S2048x1024, .f32⟩
  | 4 => ⟨S2048x1024, .f32⟩
  | 5 => ⟨S1x1024, .f32⟩
  | 6 => ⟨S2048x1024, .f32⟩
  | 7 => ⟨S2048x1024, .f32⟩
  | 8 => ⟨S1x1024, .f32⟩
  | 9 => ⟨S2048x1024, .f32⟩
  | 10 => ⟨S2048x1024, .f32⟩
  | 11 => ⟨S_, .f32⟩
  | 12 => ⟨S2048x1024, .f32⟩
  | 13 => ⟨S2048x1024, .f32⟩
  | 14 => ⟨S2048x256, .f32⟩
  | 15 => ⟨S_, .f32⟩
  | 16 => ⟨S2048x256, .f32⟩
  | 17 => ⟨S2048x256, .f32⟩
  | 18 => ⟨S2048x256, .f32⟩
  | 19 => ⟨S2048x256, .f32⟩
  | 20 => ⟨S_, .f32⟩
  | 21 => ⟨S2048x256, .f32⟩
  | 22 => ⟨S2048x256, .f32⟩
  | 23 => ⟨S_, .f32⟩
  | 24 => ⟨S2048x256, .f32⟩
  | 25 => ⟨S2048x256, .f32⟩
  | 26 => ⟨S_, .i32⟩
  | 27 => ⟨S2048, .i32⟩
  | 28 => ⟨S2048, .i1⟩
  | 29 => ⟨S_, .i32⟩
  | 30 => ⟨S2048, .i32⟩
  | 31 => ⟨S2048, .i32⟩
  | 32 => ⟨S2048, .i32⟩
  | 33 => ⟨S2048x1, .i32⟩
  | 34 => ⟨S2048x256, .f32⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S2048x256, .f32⟩
  | 44 => ⟨S2048x256, .f32⟩
  | 45 => ⟨S_, .f32⟩
  | 46 => ⟨S2048x256, .f32⟩
  | 47 => ⟨S2048x256, .f32⟩
  | 48 => ⟨S_, .f32⟩
  | 49 => ⟨S2048x256, .f32⟩
  | 50 => ⟨S2048x256, .f32⟩
  | 51 => ⟨S2048x256, .f32⟩
  | 52 => ⟨S2048x256, .f32⟩
  | _ => ⟨S2048x256, .f32⟩

abbrev hbmTy (i : Nat) : BufTy := match i / 128 with
  | 0 => hbmTy0_0 i
  | 1 => hbmTy0_1 i
  | _ => ⟨S2048x256, .f32⟩

abbrev bufTy : (tb : Table) → Fin (tcTables nBuf tb) → BufTy
  | .hbm, ⟨i, _⟩ => hbmTy i
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_v0 : Ref sig .tc := ⟨.hbm, 11, rfl⟩
abbrev main_call0_v1 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_call1_call0_c : Ref sig .tc := ⟨.hbm, 18, rfl⟩
abbrev main_call1_call0_v0 : Ref sig .tc := ⟨.hbm, 19, rfl⟩
abbrev main_v4 : Ref sig .tc := ⟨.hbm, 20, rfl⟩
abbrev main_c_1 : Ref sig .tc := ⟨.hbm, 21, rfl⟩
abbrev main_v5 : Ref sig .tc := ⟨.hbm, 22, rfl⟩
abbrev main_c_2 : Ref sig .tc := ⟨.hbm, 23, rfl⟩
abbrev main_v6 : Ref sig .tc := ⟨.hbm, 24, rfl⟩
abbrev main_v7 : Ref sig .tc := ⟨.hbm, 25, rfl⟩
abbrev main_c_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_call2_call0_c : Ref sig .tc := ⟨.hbm, 34, rfl⟩
abbrev main_call2_call0_v0 : Ref sig .tc := ⟨.hbm, 35, rfl⟩
abbrev main_v14 : Ref sig .tc := ⟨.hbm, 36, rfl⟩
abbrev main_c_5 : Ref sig .tc := ⟨.hbm, 37, rfl⟩
abbrev main_v15 : Ref sig .tc := ⟨.hbm, 38, rfl⟩
abbrev main_v16 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_c_4 : Ref sig .tc := ⟨.hbm, 59, rfl⟩
abbrev main_call3_v14 : Ref sig .tc := ⟨.hbm, 60, rfl⟩
abbrev main_v17 : Ref sig .tc := ⟨.hbm, 61, rfl⟩
abbrev main_cst : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_cst_6 : Ref sig .tc := ⟨.hbm, 71, rfl⟩
abbrev main_v26 : Ref sig .tc := ⟨.hbm, 72, rfl⟩
abbrev main_cst_7 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_8 : Ref sig .tc := ⟨.hbm, 80, rfl⟩
abbrev main_v33 : Ref sig .tc := ⟨.hbm, 81, rfl⟩
abbrev main_cst_9 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_cst_10 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_call4_cst : Ref sig .tc := ⟨.hbm, 101, rfl⟩
abbrev main_call4_v0 : Ref sig .tc := ⟨.hbm, 102, rfl⟩
abbrev main_v51 : Ref sig .tc := ⟨.hbm, 103, rfl⟩
abbrev main_v52 : Ref sig .tc := ⟨.hbm, 104, rfl⟩
abbrev main_call5_cst : Ref sig .tc := ⟨.hbm, 105, rfl⟩
abbrev main_call5_v0 : Ref sig .tc := ⟨.hbm, 106, rfl⟩
abbrev main_v53 : Ref sig .tc := ⟨.hbm, 107, rfl⟩
abbrev main_v54 : Ref sig .tc := ⟨.hbm, 108, rfl⟩
abbrev main_cst_11 : Ref sig .tc := ⟨.hbm, 109, rfl⟩
abbrev main_v55 : Ref sig .tc := ⟨.hbm, 110, rfl⟩
abbrev main_cst_12 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_13 : Ref sig .tc := ⟨.hbm, 118, rfl⟩
abbrev main_v62 : Ref sig .tc := ⟨.hbm, 119, rfl⟩
abbrev main_cst_14 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_15 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_call6_cst : Ref sig .tc := ⟨.hbm, 139, rfl⟩
abbrev main_call6_v0 : Ref sig .tc := ⟨.hbm, 140, rfl⟩
abbrev main_v80 : Ref sig .tc := ⟨.hbm, 141, rfl⟩
abbrev main_v81 : Ref sig .tc := ⟨.hbm, 142, rfl⟩
abbrev main_call7_cst : Ref sig .tc := ⟨.hbm, 143, rfl⟩
abbrev main_call7_v0 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_cst_16 : Ref sig .tc := ⟨.hbm, 148, rfl⟩
abbrev main_v85 : Ref sig .tc := ⟨.hbm, 149, rfl⟩
abbrev main_v86 : Ref sig .tc := ⟨.hbm, 150, rfl⟩
abbrev main_cst_17 : Ref sig .tc := ⟨.hbm, 151, rfl⟩
abbrev main_v87 : Ref sig .tc := ⟨.hbm, 152, rfl⟩
abbrev main_v88 : Ref sig .tc := ⟨.hbm, 153, rfl⟩
abbrev main_c_18 : Ref sig .tc := ⟨.hbm, 154, rfl⟩
abbrev main_v89 : Ref sig .tc := ⟨.hbm, 155, rfl⟩
abbrev main_v90 : Ref sig .tc := ⟨.hbm, 156, rfl⟩
abbrev main_c_19 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_c_20 : Ref sig .tc := ⟨.hbm, 163, rfl⟩
abbrev main_v96 : Ref sig .tc := ⟨.hbm, 164, rfl⟩
abbrev main_v97 : Ref sig .tc := ⟨.hbm, 165, rfl⟩
abbrev main_c_21 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_cst_22 : Ref sig .tc := ⟨.hbm, 173, rfl⟩
abbrev main_v104 : Ref sig .tc := ⟨.hbm, 174, rfl⟩
abbrev main_v105 : Ref sig .tc := ⟨.hbm, 175, rfl⟩
abbrev main_cst_23 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩

abbrev nD : Nat := 1
abbrev τ : Topo := Topo.v7x

variable {F : FTy → Type} [FloatOps F]
-- ==== Proof.Norm.lean ====
/- Batch normalisation of one column, computed in one pass over the column and in two, over the extended reals. -/
module

public import Idealize.ShloMosaic.PureOps.Ideal.Laws
public import Idealize.ShloMosaic.Lib.IdealHost

@[expose] public section

noncomputable section

namespace Cert.Norm

open Idealize.ShloMosaic

/-! ## The constants the two programs print -/

/-- The kernel's reciprocal of the number of rows is exactly one in 2048. -/
theorem recip_rows : Ideal.ofBits .f32 0x3A000000#32 = (((2048 : ℝ)⁻¹ : ℝ) : EReal) := by
  simp [Ideal.ofBits, Ideal.ieee, -EReal.coe_mul]; norm_num

/-- The reference's number of rows is 2048. -/
theorem num_rows : Ideal.ofBits .f32 0x45000000#32 = ((2048 : ℝ) : EReal) := by
  simp [Ideal.ofBits, Ideal.ieee, -EReal.coe_mul]; norm_num

/-- The number added to the variance is a positive real. -/
theorem eps_pos : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

/-- The pattern of one half. -/
theorem half : Ideal.ofBits .f32 0x3F000000#32 = (((1 : ℝ) / 2 : ℝ) : EReal) := by
  simp [Ideal.ofBits, Ideal.ieee, -EReal.coe_mul]; norm_num

/-- The pattern of three quarters. -/
theorem three_quarters : Ideal.ofBits .f32 0x3F400000#32 = (((3 : ℝ) / 4 : ℝ) : EReal) := by
  simp [Ideal.ofBits, Ideal.ieee, -EReal.coe_mul]; norm_num

/-! ## Sums of reals among the extended reals -/

/-- A finite sum of reals, taken among the extended reals, is the sum taken among the reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-! ## One column -/

/-- The mean of the squares less the square of the mean is the mean of the squared distances from the mean. -/
theorem var_two_ways (h : Fin 2048 → ℝ) (μ : ℝ) (hμ : μ = (∑ n, h n) * (2048 : ℝ)⁻¹) :
    (∑ n, h n * h n) * (2048 : ℝ)⁻¹ - μ * μ = (∑ n, (h n - μ) * (h n - μ)) * (2048 : ℝ)⁻¹ := by
  have hs : ∑ n, h n = 2048 * μ := by rw [hμ]; ring
  have he : ∑ n, (h n - μ) * (h n - μ) = ∑ n, h n * h n - 2 * μ * ∑ n, h n + 2048 * (μ * μ) := by
    rw [Finset.mul_sum, ← Finset.sum_sub_distrib]
    have hc : (2048 : ℝ) * (μ * μ) = ∑ _n : Fin 2048, μ * μ := by simp
    rw [hc, ← Finset.sum_add_distrib]
    exact Finset.sum_congr rfl fun n _ => by ring
  rw [he, hs]
  ring

/-- The kernel's normalised value at a row whose product is `y`: the column's sum `S` and sum of squares `Q` give the scale
    and the shift. -/
def onePass (S Q y g b : EReal) : EReal :=
  y * (g * Ideal.rsqrt (Q * Ideal.ofBits .f32 0x3A000000#32
      - S * Ideal.ofBits .f32 0x3A000000#32 * (S * Ideal.ofBits .f32 0x3A000000#32) + Ideal.ofBits .f32 0x3727C5AC#32))
    + (b - S * Ideal.ofBits .f32 0x3A000000#32 * (g * Ideal.rsqrt (Q * Ideal.ofBits .f32 0x3A000000#32
      - S * Ideal.ofBits .f32 0x3A000000#32 * (S * Ideal.ofBits .f32 0x3A000000#32) + Ideal.ofBits .f32 0x3727C5AC#32)))

/-- The reference's mean of a column. -/
def mean (h : Fin 2048 → EReal) : EReal := Ideal.div (0 + ∑ n, h n) (Ideal.ofBits .f32 0x45000000#32)

/-- The reference's normalised value of a column at row `n`: distance from the mean over the root of the variance, scaled and
    shifted. -/
def twoPass (h : Fin 2048 → EReal) (g b : EReal) (n : Fin 2048) : EReal :=
  Ideal.div (h n - mean h)
      (Ideal.sqrt (Ideal.div (0 + ∑ i, (h i - mean h) * (h i - mean h)) (Ideal.ofBits .f32 0x45000000#32) + Ideal.ofBits .f32 0x3727C5AC#32))
    * g + b

/-- The reference's mean of a column of reals is their sum over 2048. -/
theorem mean_coe (h : Fin 2048 → ℝ) : mean (fun n => (h n : EReal)) = (((∑ n, h n) * (2048 : ℝ)⁻¹ : ℝ) : EReal) := by
  rw [mean, num_rows, zero_add, sum_coe, Ideal.div_coe (by norm_num), ← EReal.coe_mul, one_div]

/-- ON A COLUMN OF REALS, scaled by a real, the one-pass and the two-pass normalisation agree at every shift, a real or not. -/
theorem onePass_eq_twoPass (h : Fin 2048 → ℝ) (g : ℝ) (b : EReal) (n : Fin 2048) :
    onePass ((∑ i, h i : ℝ) : EReal) ((∑ i, h i * h i : ℝ) : EReal) (h n) g b = twoPass (fun i => (h i : EReal)) g b n := by
  obtain ⟨e, he0, he⟩ := eps_pos
  obtain ⟨μ, hμ⟩ : ∃ μ, μ = (∑ i, h i) * (2048 : ℝ)⁻¹ := ⟨_, rfl⟩
  have hv := var_two_ways h μ hμ
  obtain ⟨v, hvd⟩ : ∃ v, v = (∑ i, (h i - μ) * (h i - μ)) * (2048 : ℝ)⁻¹ := ⟨_, rfl⟩
  have hv0 : 0 ≤ v := by
    rw [hvd]
    exact mul_nonneg (Finset.sum_nonneg fun i _ => mul_self_nonneg _) (by norm_num)
  rw [← hvd] at hv
  have hpos : 0 < v + e := by linarith
  have hr : Real.sqrt (v + e) ≠ 0 := (Real.sqrt_pos.2 hpos).ne'
  unfold onePass twoPass
  rw [mean_coe, ← hμ, recip_rows, num_rows, he, zero_add]
  simp only [← EReal.coe_sub, ← EReal.coe_mul]
  rw [sum_coe, ← hμ, Ideal.div_coe (by norm_num : (2048 : ℝ) ≠ 0)]
  simp only [← EReal.coe_sub, ← EReal.coe_mul, ← EReal.coe_add]
  rw [one_div, ← hvd, hv, Ideal.rsqrt_coe, if_neg (not_lt.2 hpos.le), if_neg hpos.ne', Ideal.sqrt_coe, if_neg (not_lt.2 hpos.le),
    Ideal.div_coe hr]
  simp only [← EReal.coe_mul]
  rw [sub_eq_add_neg, add_comm b, ← add_assoc, ← EReal.coe_neg, ← EReal.coe_add]
  congr 2
  rw [one_div]
  ring

/-! ## The last combination -/

/-- The logistic function takes real values only. -/
theorem logistic_real (s : EReal) : ∃ r : ℝ, Ideal.logistic s = (r : EReal) := by
  induction s with
  | bot => exact ⟨0, by simp⟩
  | top => exact ⟨1, by simp⟩
  | coe r => exact ⟨_, Ideal.logistic_coe r⟩

/-- The kernel's and the reference's way to mix a real with the weight's logistic and to add the other branch agree, whatever
    the two branches hold. -/
theorem mix (x : ℝ) (s t : EReal) :
    (x : EReal) * (Ideal.ofBits .f32 0x3F000000#32 * Ideal.logistic s + Ideal.ofBits .f32 0x3F400000#32) + t
      = Ideal.logistic s * x * Ideal.ofBits .f32 0x3F000000#32 + x * Ideal.ofBits .f32 0x3F400000#32 + t := by
  obtain ⟨r, hr⟩ := logistic_real s
  rw [hr, half, three_quarters]
  simp only [← EReal.coe_mul, ← EReal.coe_add]
  congr 2
  ring

end Cert.Norm

end
-- ==== Proof.Formula.lean ====
/- The two formulas of one branch, index by index, and their agreement on real inputs. -/
module

public import proofs.«01_k».proof.Proof.Norm
public import Idealize.ShloMosaic.Lib.ValueIdxCore
public import Idealize.ShloMosaic.Lib.Routing.Shapes

@[expose] public section

noncomputable section

namespace Cert.Formula

open Idealize.ShloMosaic Idealize.ShloMosaic.ValueIdx Idealize.ShloMosaic.Routing Cert.Norm

/-- A matrix of extended reals. -/
abbrev Mat (a b : Nat) := (shape2 a b).Idx → EReal
/-- A vector of extended reals. -/
abbrev Row (a : Nat) := (shape1 a).Idx → EReal

/-- Column `j` of the product of the features by a branch's first weight. -/
def column (x : Mat 2048 256) (w : Mat 256 1024) (j : Fin 1024) (n : Fin 2048) : EReal :=
  ∑ k : Fin 256, x (ix2 n k) * w (ix2 k j)

/-- The sum of that column as the kernel takes it: the features' column sums, then their product with the weight. -/
def columnSum (x : Mat 2048 256) (w : Mat 256 1024) (j : Fin 1024) : EReal :=
  ∑ k : Fin 256, (∑ n : Fin 2048, x (ix2 n k)) * w (ix2 k j)

/-- A branch at `(n, c)` as the kernel computes it: product, one-pass normalisation, positive part, product, positive part. -/
def kernelBranch (x : Mat 2048 256) (w : Mat 256 1024) (g b : Row 1024) (w' : Mat 1024 256) (n : Fin 2048) (c : Fin 256) : EReal :=
  max (∑ j : Fin 1024, max (onePass (columnSum x w j) (∑ i : Fin 2048, column x w j i * column x w j i) (column x w j n)
    (g (ix1 j)) (b (ix1 j))) 0 * w' (ix2 j c)) 0

/-- A branch at `(n, c)` as the reference computes it: the same with the two-pass normalisation. -/
def referenceBranch (x : Mat 2048 256) (w : Mat 256 1024) (g b : Row 1024) (w' : Mat 1024 256) (n : Fin 2048) (c : Fin 256) : EReal :=
  max (∑ j : Fin 1024, max (twoPass (column x w j) (g (ix1 j)) (b (ix1 j)) n) 0 * w' (ix2 j c)) 0

/-- Every entry of an array is a real. -/
def Real {s : Shape} (x : s.Idx → EReal) : Prop := ∀ i, ∃ r : ℝ, x i = (r : EReal)

/-- On real features and a real weight, a column of the product is a column of reals, and the kernel's two sums are its sum and its
    sum of squares. -/
theorem column_real (x : Mat 2048 256) (w : Mat 256 1024) (hx : Real x) (hw : Real w) (j : Fin 1024) :
    ∃ h : Fin 2048 → ℝ, column x w j = (fun n => (h n : EReal)) ∧ columnSum x w j = ((∑ n, h n : ℝ) : EReal)
      ∧ ∑ n : Fin 2048, column x w j n * column x w j n = ((∑ n, h n * h n : ℝ) : EReal) := by
  choose X hX using hx
  choose W hW using hw
  have hc : column x w j = fun n => ((∑ k : Fin 256, X (ix2 n k) * W (ix2 k j) : ℝ) : EReal) := by
    funext n
    simp only [column, hX, hW, ← EReal.coe_mul, sum_coe]
  refine ⟨_, hc, ?_, ?_⟩
  · simp only [columnSum, hX, hW, sum_coe, ← EReal.coe_mul]
    refine congrArg _ ?_
    rw [Finset.sum_comm]
    exact Finset.sum_congr rfl fun k _ => Finset.sum_mul _ _ _
  · rw [hc]
    simp only [← EReal.coe_mul, sum_coe]

/-- THE TWO BRANCHES AGREE when the features, the first weight and the scale are real; the shift and the second weight may hold
    anything. -/
theorem kernelBranch_eq (x : Mat 2048 256) (w : Mat 256 1024) (g b : Row 1024) (w' : Mat 1024 256) (hx : Real x) (hw : Real w)
    (hg : Real g) (n : Fin 2048) (c : Fin 256) : kernelBranch x w g b w' n c = referenceBranch x w g b w' n c := by
  unfold kernelBranch referenceBranch
  refine congrArg (max · 0) (Finset.sum_congr rfl fun j _ => ?_)
  obtain ⟨h, hc, hs, hq⟩ := column_real x w hx hw j
  obtain ⟨r, hr⟩ := hg (ix1 j)
  rw [hs, hq, hc, hr, onePass_eq_twoPass]

end Cert.Formula

end
-- ==== Proof.KernelSide.lean ====
/- The kernel's payloads read at an index: each of its two branches is the one-pass formula. -/
module

public import proofs.«01_k».proof.Proof.Gen.KernelIdeal.Skeleton
public import proofs.«01_k».proof.Proof.Formula
public import Idealize.ShloMosaic.Lib.MatmulPlain
public import Idealize.ShloMosaic.Lib.Pipeline.Value

@[expose] public section

set_option maxRecDepth 16384

noncomputable section

namespace Cert.KernelSide

open Idealize.ShloMosaic Idealize.ShloMosaic.ValueIdx Idealize.ShloMosaic.Routing
open Cert.KernelIdeal Cert.KernelIdeal.Gen Cert.Norm Cert.Formula

/-! ## The layout operations of the body, read at an index -/

/-- A vector viewed as one row reads its entry. -/
theorem row_of_vec {n : Nat} (v : Row n) (h : (shape1 n).ShapeCasts (shape2 1 n)) (j : Fin n) :
    shapeCast (shape2 1 n) v h (ix2 0 j) = v (ix1 j) :=
  (shapeCast_addUnit_apply ![n] v h (ix2 0 j)).trans (congrArg v (funext fun a => by match a with | ⟨0, _⟩ => rfl))

/-- One row repeated down the rows reads the row. -/
theorem rows_of_row (v : Mat 1 1024) (h : (shape2 1 1024).Broadcasts (shape2 2048 1024)) (n : Fin 2048) (j : Fin 1024) :
    broadcastTo (shape2 2048 1024) v h (ix2 n j) = v (ix2 0 j) :=
  broadcastTo_apply v h _ _ fun a => by match a with | ⟨0, _⟩ => rfl | ⟨1, _⟩ => rfl

/-- A sum down the rows of a matrix, at a column. -/
theorem sum_rows {n m : Nat} (v : FVec Ideal (shape2 n m) .f32) (h : (shape2 n m).Reduces [0] (shape1 m)) (hφ : FKind.Formats .f32)
    (hacc : (0x00000000#32 : BitVec 32) = FKind.add.neutral .f32 hφ) (j : Fin m) :
    multiReduction .add [0] (shape1 m) v 0x00000000#32 h hφ hacc (ix1 j) = ∑ i : Fin n, v (ix2 i j) := by
  rw [Ideal.multiReduction_add_single]
  exact Finset.sum_congr rfl fun i _ => congrArg v (funext fun a => by match a with | ⟨0, _⟩ => rfl | ⟨1, _⟩ => rfl)

/-- A product into the zero accumulator, at an index. -/
theorem product {M K N : Nat} (lhs : FVec Ideal (shape2 M K) .f32) (rhs : FVec Ideal (shape2 K N) .f32) (r : Fin M) (c : Fin N) :
    matmul (DotDims.plain M K N) none lhs rhs (constant (shape2 M N) .f32 0x00000000#32) (ix2 r c)
      = ∑ k : Fin K, lhs (ix2 r k) * rhs (ix2 k c) := by
  refine (Ideal.matmul_plain_apply none lhs rhs _ r c).trans ?_
  show Ideal.ofBits .f32 0x00000000#32 + _ = _
  rw [Ideal.ofBits_zero_f32, zero_add]

/-! ## The branch, in the body's operations -/

/-- The first product. -/
def prodK (x : FVec Ideal S2048x256 .f32) (w : FVec Ideal S256x1024 .f32) : FVec Ideal S2048x1024 .f32 :=
  matmul dot_S2048x256_S256x1024_S2048x1024_1_0_0_1_n_n none x w (constant S2048x1024 .f32 0x00000000#32)

/-- The mean row: the product of the features' column sums, times the reciprocal of the number of rows. -/
def meanK (s : FVec Ideal S1x256 .f32) (w : FVec Ideal S256x1024 .f32) : FVec Ideal S1x1024 .f32 :=
  mulf (matmul dot_S1x256_S256x1024_S1x1024_1_0_0_1_n_n none s w (constant S1x1024 .f32 0x00000000#32))
    (broadcast S1x1024 (Scalar.ofBits .f32 0x3A000000#32))

/-- The row of mean squares. -/
def sqK (h : FVec Ideal S2048x1024 .f32) : FVec Ideal S1x1024 .f32 :=
  mulf (shapeCast S1x1024 (multiReduction .add [0] S1024 (mulf h h) 0x00000000#32 Facts₀.reduces_S2048x1024_S1024 (.inl rfl) rfl)
    Facts₀.shapeCasts_S1024_S1x1024) (broadcast S1x1024 (Scalar.ofBits .f32 0x3A000000#32))

/-- The row of scales, from the means, the mean squares and the scale vector. -/
def scaleK (μ q : FVec Ideal S1x1024 .f32) (g : FVec Ideal S1024 .f32) : FVec Ideal S1x1024 .f32 :=
  mulf (shapeCast S1x1024 g Facts₀.shapeCasts_S1024_S1x1024)
    (rsqrt (addf (subf q (mulf μ μ)) (broadcast S1x1024 (Scalar.ofBits .f32 0x3727C5AC#32))))

/-- The hidden layer: product times scale plus shift, positive part. -/
def hiddenK (x : FVec Ideal S2048x256 .f32) (s : FVec Ideal S1x256 .f32) (w : FVec Ideal S256x1024 .f32) (g b : FVec Ideal S1024 .f32) :
    FVec Ideal S2048x1024 .f32 :=
  maximumf
    (addf (mulf (prodK x w) (broadcastTo S2048x1024 (scaleK (meanK s w) (sqK (prodK x w)) g) Facts₀.broadcasts_S1x1024_S2048x1024))
      (broadcastTo S2048x1024 (subf (shapeCast S1x1024 b Facts₀.shapeCasts_S1024_S1x1024)
        (mulf (meanK s w) (scaleK (meanK s w) (sqK (prodK x w)) g))) Facts₀.broadcasts_S1x1024_S2048x1024))
    (broadcast S2048x1024 (Scalar.ofBits .f32 0x00000000#32))

/-- The branch: the hidden layer times the second weight, positive part. -/
def branchK (x : FVec Ideal S2048x256 .f32) (s : FVec Ideal S1x256 .f32) (w : FVec Ideal S256x1024 .f32) (g b : FVec Ideal S1024 .f32)
    (w' : FVec Ideal S1024x256 .f32) : FVec Ideal S2048x256 .f32 :=
  maximumf (matmul dot_S2048x1024_S1024x256_S2048x256_1_0_0_1_n_n none (hiddenK x s w g b) w' (constant S2048x256 .f32 0x00000000#32))
    (broadcast S2048x256 (Scalar.ofBits .f32 0x00000000#32))

/-- The body's mean branch is this branch. -/
theorem pay3_eq (x : FVec Ideal S2048x256 .f32) (w : FVec Ideal S256x1024 .f32) (g b : FVec Ideal S1024 .f32)
    (w' : FVec Ideal S1024x256 .f32) : k0_pay3 x w g b w' = branchK x (k0_pay2 x) w g b w' := rfl

/-- What the body stores: the features times the mixed logistic of the weight branch, plus the mean branch. -/
theorem pay1_eq (x : FVec Ideal S2048x256 .f32) (s : FVec Ideal S1x256 .f32) (t : FVec Ideal S2048x256 .f32)
    (w : FVec Ideal S256x1024 .f32) (g b : FVec Ideal S1024 .f32) (w' : FVec Ideal S1024x256 .f32) :
    k0_pay1 x s t w g b w'
      = addf (mulf x (addf (mulf (broadcast S2048x256 (Scalar.ofBits .f32 0x3F000000#32)) (logistic (branchK x s w g b w')))
          (broadcast S2048x256 (Scalar.ofBits .f32 0x3F400000#32)))) t := rfl

/-! ## The same, read at an index -/

/-- The features' column sums. -/
theorem pay2_at (x : FVec Ideal S2048x256 .f32) (k : Fin 256) : k0_pay2 x (ix2 0 k) = ∑ n : Fin 2048, x (ix2 n k) :=
  (row_of_vec _ _ k).trans (sum_rows x _ _ _ k)

/-- The first product at an index is its column's entry. -/
theorem prodK_at (x : FVec Ideal S2048x256 .f32) (w : FVec Ideal S256x1024 .f32) (n : Fin 2048) (j : Fin 1024) :
    prodK x w (ix2 n j) = column x w j n := product x w n j

/-- The mean row over the features' column sums is the column's sum times the reciprocal. -/
theorem meanK_at (x : FVec Ideal S2048x256 .f32) (w : FVec Ideal S256x1024 .f32) (j : Fin 1024) :
    meanK (k0_pay2 x) w (ix2 0 j) = columnSum x w j * Ideal.ofBits .f32 0x3A000000#32 := by
  refine congrArg (· * Ideal.ofBits .f32 0x3A000000#32) ((product (k0_pay2 x) w 0 j).trans ?_)
  exact Finset.sum_congr rfl fun k _ => congrArg (· * w (ix2 k j)) (pay2_at x k)

/-- The mean squares are the column's sum of squares times the reciprocal. -/
theorem sqK_at (x : FVec Ideal S2048x256 .f32) (w : FVec Ideal S256x1024 .f32) (j : Fin 1024) :
    sqK (prodK x w) (ix2 0 j) = (∑ n : Fin 2048, column x w j n * column x w j n) * Ideal.ofBits .f32 0x3A000000#32 := by
  refine congrArg (· * Ideal.ofBits .f32 0x3A000000#32) ((row_of_vec _ _ j).trans ((sum_rows _ _ _ _ j).trans ?_))
  exact Finset.sum_congr rfl fun n _ => congrArg₂ (· * ·) (prodK_at x w n j) (prodK_at x w n j)

/-- The scale at a column. -/
theorem scaleK_at (μ q : FVec Ideal S1x1024 .f32) (g : FVec Ideal S1024 .f32) (j : Fin 1024) :
    scaleK μ q g (ix2 0 j)
      = g (ix1 j) * Ideal.rsqrt (q (ix2 0 j) - μ (ix2 0 j) * μ (ix2 0 j) + Ideal.ofBits .f32 0x3727C5AC#32) :=
  congrArg (· * Ideal.rsqrt (q (ix2 0 j) - μ (ix2 0 j) * μ (ix2 0 j) + Ideal.ofBits .f32 0x3727C5AC#32)) (row_of_vec g _ j)

/-- The hidden layer at an index: the positive part of the one-pass normalisation of its column. -/
theorem hiddenK_at (x : FVec Ideal S2048x256 .f32) (w : FVec Ideal S256x1024 .f32) (g b : FVec Ideal S1024 .f32) (n : Fin 2048)
    (j : Fin 1024) :
    hiddenK x (k0_pay2 x) w g b (ix2 n j)
      = max (onePass (columnSum x w j) (∑ i : Fin 2048, column x w j i * column x w j i) (column x w j n) (g (ix1 j)) (b (ix1 j))) 0 := by
  refine congrArg₂ max (congrArg₂ (· + ·) (congrArg₂ (· * ·) (prodK_at x w n j) ((rows_of_row _ _ n j).trans ?_))
    ((rows_of_row _ _ n j).trans (congrArg₂ (· - ·) (row_of_vec b _ j) (congrArg₂ (· * ·) (meanK_at x w j) ?_)))) Ideal.ofBits_zero_f32
  all_goals rw [scaleK_at, meanK_at, sqK_at]

/-- A branch of the body at an index is the kernel's branch formula. -/
theorem branchK_at (x : FVec Ideal S2048x256 .f32) (w : FVec Ideal S256x1024 .f32) (g b : FVec Ideal S1024 .f32)
    (w' : FVec Ideal S1024x256 .f32) (n : Fin 2048) (c : Fin 256) :
    branchK x (k0_pay2 x) w g b w' (ix2 n c) = kernelBranch x w g b w' n c := by
  refine congrArg₂ max ((product (hiddenK x (k0_pay2 x) w g b) w' n c).trans ?_) Ideal.ofBits_zero_f32
  exact Finset.sum_congr rfl fun j _ => congrArg (· * w' (ix2 j c)) (hiddenK_at x w g b n j)

/-- WHAT THE KERNEL STORES at an index: the features times half the weight branch's logistic plus three quarters, plus the mean
    branch. -/
theorem stored_at (x : FVec Ideal S2048x256 .f32) (w : FVec Ideal S256x1024 .f32) (g b : FVec Ideal S1024 .f32)
    (w' : FVec Ideal S1024x256 .f32) (v : FVec Ideal S256x1024 .f32) (g' b' : FVec Ideal S1024 .f32) (v' : FVec Ideal S1024x256 .f32)
    (n : Fin 2048) (c : Fin 256) :
    k0_pay1 x (k0_pay2 x) (k0_pay3 x w g b w') v g' b' v' (ix2 n c)
      = x (ix2 n c) * (Ideal.ofBits .f32 0x3F000000#32 * Ideal.logistic (kernelBranch x v g' b' v' n c)
          + Ideal.ofBits .f32 0x3F400000#32) + kernelBranch x w g b w' n c := by
  rw [pay1_eq, pay3_eq, ← branchK_at, ← branchK_at]
  rfl

end Cert.KernelSide

end
-- ==== Proof.Segments.lean ====
/- The reference's repeated segment numbers when every segment has one point: entry `i` is `i`, so every lookup through them is the
   array itself and the segment means are the features. -/
module

public import proofs.«01_k».proof.Proof.Gen.ReferenceIdeal.Run
public import Idealize.ShloMosaic.Lib.IdealHost
public import Idealize.ShloMosaic.Lib.ReduceAll
public import Idealize.ShloMosaic.Lib.Pipeline.Value
public import Idealize.ShloMosaic.Lib.Routing.Ops
public import Idealize.ShloMosaic.Lib.Routing.OpsSet
public import Idealize.ShloMosaic.Lib.Routing.OpsOne
public import Idealize.ShloMosaic.Lib.Routing.OpsPair

@[expose] public section

set_option maxRecDepth 16384

noncomputable section

namespace Cert.Segments

open Idealize.ShloMosaic Idealize.ShloMosaic.ValueIdx Idealize.ShloMosaic.Routing
open Cert.ReferenceIdeal Cert.ReferenceIdeal.Gen Cert.ReferenceIdeal.Value

/-- An index vector as jax wraps it: entries below zero are moved up by the number of rows. -/
def wrapped (x : IVec S2048 32) : IVec S2048 32 :=
  select (cmpi .slt x (broadcastInDim S2048 ![] Facts₀.bcast_S_S2048 (constantI S_ 32 0#32)))
    (addi x (broadcastInDim S2048 ![] Facts₀.bcast_S_S2048 (constantI S_ 32 2048#32))) x

/-- The wrap leaves an index below 2048 alone. -/
theorem wrapped_at (x : IVec S2048 32) (i k : Fin 2048) (hx : x (ix1 i) = BitVec.ofNat 32 k.val) :
    wrapped x (ix1 i) = BitVec.ofNat 32 k.val := by
  refine (wrap_of_lt (x (ix1 i)) _ ?_).trans hx
  rw [hx, BitVec.toNat_ofNat]
  have := k.isLt
  omega

/-- A wrapped index vector as the one column a lookup takes. -/
theorem wrapped_col (x : IVec S2048 32) (i k : Fin 2048) (hx : x (ix1 i) = BitVec.ofNat 32 k.val) :
    broadcastInDim S2048x1 ![0] Facts₀.bcast_S2048_S2048x1_0 (wrapped x) (ix2 i (0 : Fin 1)) = BitVec.ofNat 32 k.val :=
  (bcCol _ _ i).trans (wrapped_at x i k hx)

/-- The prefix sums of a list of numbers, all one but the first, which is zero: entry `j` is `j`. -/
theorem sum_zero_ones (j : Nat) : ((List.range (j + 1)).map fun i => if i = 0 then 0 else 1).sum = j := by
  induction j with
  | zero => rfl
  | succ j ih => rw [List.range_succ, List.map_append, List.sum_append, ih]; simp

/-- The prefix sums of a list of ones: entry `j` is `j + 1`. -/
theorem sum_ones (j : Nat) : ((List.range (j + 1)).map fun _ => 1).sum = j + 1 := by simp

/-- Each number below `N` is met once in counting up to `N`. -/
theorem count_self {N x : Nat} (hx : x < N) : Nat.count (fun i => i = x) N = 1 := by
  have h : ∀ M, Nat.count (fun i => i = x) M = if x < M then 1 else 0 := fun M => by
    induction M with
    | zero => simp
    | succ M ih => rw [Nat.count_succ, ih]; split_ifs <;> omega
  rw [h, if_pos hx]

variable (V : Valuation τ sig (Elt Ideal)) (h1 : ∀ i, V (Proc.devRef .tc main_arg1) i = 1#32)
include h1

/-- The counts rolled by one place are all one. -/
theorem rolled_at (i : Fin 2048) :
    concatenate S2048 0 [⟨S1, (extractStridedSlice S1 ![2047] (V (Proc.devRef .tc main_arg1)) Facts₀.slices_S2048_S1_2047)⟩,
      ⟨S2047, (extractStridedSlice S2047 ![0] (V (Proc.devRef .tc main_arg1)) Facts₀.slices_S2048_S2047_0)⟩]
      Facts₀.concatenates_S1_S2047_S2048_d0 (ix1 i) = 1#32 := by
  by_cases hi : i.val = 0
  · rw [concatenate_pair_apply_left (s₁ := S1) (s₂ := S2047) 0 _ _ _ (ix1 i) rfl (ix1 (0 : Fin 1)) fun b => by
      match b with
      | ⟨0, _⟩ => exact hi.symm]
    exact h1 _
  · have := i.isLt
    rw [concatenate_pair_apply_right (s₁ := S1) (s₂ := S2047) 0 _ _ _ (ix1 i) rfl rfl (ix1 (⟨i.val - 1, by omega⟩ : Fin 2047))
      (fun b hb => by
        match b with
        | ⟨0, _⟩ => exact absurd rfl hb)
      (by show i.val - 1 + 1 = i.val; omega)]
    exact h1 _

/-- The first row of each segment: segment `i` starts at row `i`. -/
theorem starts_at (i : Fin 2048) : res_main_v4 V (ix1 i) = BitVec.ofNat 32 i.val := by
  unfold res_main_v4
  refine (cumsum1 (N := 2048) (Nm1 := 2047) rfl _ (fun k => if k = 0 then 0 else 1) (fun k => ?_) _ (bc0 _ _ _) _ _ i).trans ?_
  · refine (scatter_one (N := 2048) _ rfl rfl _ _ _ 0 (by norm_num) (bc0 _ _ _) k).trans ?_
    by_cases hk : k = 0
    · subst hk; rfl
    · rw [if_neg hk, rolled_at V h1, if_neg (show ¬k.val = 0 from fun e => hk (Fin.ext e))]
  · rw [sum_zero_ones]

omit h1 in
/-- The number of segments that start at each row. -/
def starts : IVec S2048 32 :=
  Host.scatter scatter_S2048_S2048x1_S2048_n_0_0_1 IntOp.addi (broadcastInDim S2048 ![] Facts₀.bcast_S_S2048 (constantI S_ 32 0#32))
    (broadcastInDim S2048x1 ![0] Facts₀.bcast_S2048_S2048x1_0 (wrapped (res_main_v4 V)))
    (broadcastInDim S2048 ![] Facts₀.bcast_S_S2048 (constantI S_ 32 1#32))

/-- One segment starts at every row. -/
theorem starts_one (k : Fin 2048) : starts V (ix1 k) = BitVec.ofNat 32 1 := by
  have hg : ∀ i : Fin 2048, (broadcastInDim S2048x1 ![0] Facts₀.bcast_S2048_S2048x1_0 (wrapped (res_main_v4 V))) (ix2 i (0 : Fin 1))
      = BitVec.ofNat 32 i.val := fun i => wrapped_col _ i i (starts_at V h1 i)
  unfold starts
  generalize broadcastInDim S2048x1 ![0] Facts₀.bcast_S2048_S2048x1_0 (wrapped (res_main_v4 V)) = idx at hg ⊢
  refine (scatter_hist (N := 2048) scatter_S2048_S2048x1_S2048_n_0_0_1 rfl rfl rfl _ (fun _ => bc0 _ _ _) idx _ (fun _ => bc0 _ _ _)
    (fun i => i) hg (fun i => by have := i.isLt; omega) k).trans ?_
  exact congrArg (BitVec.ofNat 32) (count_self k.isLt)

/-- One start is counted at every row, so the running count less one at row `i` is `i`. -/
theorem running_at (i : Fin 2048) : res_main_v16 V (ix1 i) = BitVec.ofNat 32 i.val := by
  have hs := starts_one V h1
  have e : res_main_v16 V = subi (Host.reduceWindow IntOp.addi ![2048] ![1] ![2047] ![0] (starts V)
      (broadcastInDim S_ ![] Facts₀.bcast_S_S_ (constantI S_ 32 0#32)) Facts₀.reduceWindows_S2048_S2048_w2048s1p2047_0 Facts₀.h_S_)
      (broadcastInDim S2048 ![] Facts₀.bcast_S_S2048 (constantI S_ 32 1#32)) := rfl
  rw [e]
  generalize starts V = y at hs
  refine (congrArg (· - 1#32) ((cumsum1 (N := 2048) (Nm1 := 2047) rfl y (fun _ => 1) hs _ (bc0 _ _ _) _ _ i).trans
    (congrArg (BitVec.ofNat 32) (sum_ones i.val)))).trans ?_
  rw [StableHlo.Predicate.sub_one_ofNat _ (by omega) (by have := i.isLt; omega), Nat.add_sub_cancel]

/-- The column of running counts that the last lookup takes. -/
theorem lookup_at (i : Fin 2048) : res_main_call3_v5 V (ix2 i (0 : Fin 1)) = BitVec.ofNat 32 i.val :=
  wrapped_col (res_main_v16 V) i i (running_at V h1 i)

/-- THE SEGMENT NUMBERS: row `i` is in segment `i`. -/
theorem segment_at (i : Fin 2048) : res_main_v17 V (ix1 i) = BitVec.ofNat 32 i.val := by
  have hi := i.isLt
  unfold res_main_v17
  refine (congrArg₂ (fun p q => Scalar.select p q _) ?_ ((gather_take1 (N := 2048) (n := 2048) _ rfl rfl rfl rfl _ _ i i (lookup_at V h1 i)
    (by norm_num)))).trans (select_one _ _)
  refine Host.reduce_andi_one _ _ _ _ _ rfl fun k => ?_
  obtain ⟨r, rfl⟩ : ∃ r : Fin 2048, k = ix2 r (0 : Fin 1) :=
    ⟨k 0, (eq_ix2 k).trans (congrArg (ix2 (k 0)) (Subsingleton.elim (α := Fin 1) _ _))⟩
  have h0 := r.isLt
  have e := lookup_at V h1 r
  show IntOp.andi (IntOp.cmpi .sge (res_main_call3_v5 V (ix2 r (0 : Fin 1))) 0#32)
    (IntOp.cmpi .sle (res_main_call3_v5 V (ix2 r (0 : Fin 1))) 2047#32) = 1#1
  rw [e, (StableHlo.Predicate.sge_iff_toNat (by rw [BitVec.toNat_ofNat]; omega) (by decide)).2 (by simp),
    (StableHlo.Predicate.sle_iff_toNat (by rw [BitVec.toNat_ofNat]; omega) (by decide)).2 (by rw [BitVec.toNat_ofNat]; show _ ≤ 2047; omega)]
  rfl

/-- A lookup of rows through the segment numbers is the array itself. -/
theorem rows_at (x : FVec Ideal S2048x256 .f32) (n : Fin 2048) (c : Fin 256) :
    Host.gather gather_S2048x256_S2048x1_S2048x256_1_0_n_n_0_1_1256 x
      (broadcastInDim S2048x1 ![0] Facts₀.bcast_S2048_S2048x1_0 (wrapped (res_main_v17 V))) (ix2 n c) = x (ix2 n c) :=
  gather_row (nb := 2048) (B := 256) (n := 2048) _ rfl rfl rfl rfl rfl x _ n c n (wrapped_col _ n n (segment_at V h1 n)) (by norm_num)

omit h1 in
/-- A row of updates lands at the row its index names, each entry at its own column. -/
theorem lands_row (idx : IVec S2048x1 32) (i r : Fin 2048) (y c : Fin 256) :
    scatter_S2048x256_S2048x1_S2048x256_1_0_0_1.resultIdx? (ix2 i y) idx = some (ix2 r c)
      ↔ (idx (ix2 i (0 : Fin 1))).toInt = r.val ∧ y = c := by
  have hs : scatter_S2048x256_S2048x1_S2048x256_1_0_0_1.siIdx (ix2 i y) ⟨0, by decide⟩ = ix2 i (0 : Fin 1) := by
    funext a
    match a with
    | ⟨0, _⟩ => rfl
    | ⟨1, _⟩ => rfl
  have s0 : scatter_S2048x256_S2048x1_S2048x256_1_0_0_1.start (ix2 i y) idx 0 = (idx (ix2 i (0 : Fin 1))).toInt := by
    rw [← hs]; rfl
  have s1 : scatter_S2048x256_S2048x1_S2048x256_1_0_0_1.start (ix2 i y) idx 1 = 0 := rfl
  have w0 : scatter_S2048x256_S2048x1_S2048x256_1_0_0_1.window (ix2 i y) 0 = 0 := rfl
  have w1 : scatter_S2048x256_S2048x1_S2048x256_1_0_0_1.window (ix2 i y) 1 = y.val := rfl
  rw [resultIdx?_ix2, s0, s1, w0, w1, Fin.ext_iff]
  omega

/-- The segment sums from zero are the features: each segment receives its one row. -/
theorem sums_at (x : FVec Ideal S2048x256 .f32) (n : Fin 2048) (c : Fin 256) :
    Host.scatterAdd scatter_S2048x256_S2048x1_S2048x256_1_0_0_1
      (broadcastInDim S2048x256 ![] Facts₀.bcast_S_S2048x256 (constant S_ .f32 0x00000000#32))
      (broadcastInDim S2048x1 ![0] Facts₀.bcast_S2048_S2048x1_0 (res_main_v17 V)) x (ix2 n c) = x (ix2 n c) := by
  have hidx : ∀ i : Fin 2048, (broadcastInDim S2048x1 ![0] Facts₀.bcast_S2048_S2048x1_0 (res_main_v17 V) (ix2 i (0 : Fin 1))).toInt = (i.val : Int) :=
    fun i => by
      have hi := i.isLt
      rw [bcCol, segment_at V h1, StableHlo.Predicate.toInt_ofNat_small _ (by omega)]
  show Ideal.ofBits .f32 0x00000000#32 + ∑ j ∈ Finset.univ.filter (fun j =>
    scatter_S2048x256_S2048x1_S2048x256_1_0_0_1.resultIdx? j
      (broadcastInDim S2048x1 ![0] Facts₀.bcast_S2048_S2048x1_0 (res_main_v17 V)) = some (ix2 n c)), x j = _
  have hf : (Finset.univ.filter fun j => scatter_S2048x256_S2048x1_S2048x256_1_0_0_1.resultIdx? j
      (broadcastInDim S2048x1 ![0] Facts₀.bcast_S2048_S2048x1_0 (res_main_v17 V)) = some (ix2 n c)) = {ix2 n c} := by
    ext j
    obtain ⟨r, y, rfl⟩ : ∃ (r : Fin 2048) (y : Fin 256), j = ix2 r y := ⟨j 0, j 1, eq_ix2 j⟩
    rw [Finset.mem_filter, Finset.mem_singleton, lands_row, hidx]
    constructor
    · rintro ⟨-, e, e'⟩
      rw [e', Fin.ext (by exact_mod_cast e : r.val = n.val)]
    · intro e
      exact ⟨Finset.mem_univ _, congrArg (fun k : Fin 2048 => (k.val : Int)) (congrFun e 0), congrFun e 1⟩
  rw [hf, Finset.sum_singleton, Ideal.ofBits_zero_f32, zero_add]

/-- THE SEGMENT MEANS are the features: each sum is divided by the count one. -/
theorem means (i : S2048x256.Idx) : res_main_v24 V i = V (Proc.devRef .tc main_arg0) i := by
  obtain ⟨r, y, rfl⟩ : ∃ (r : Fin 2048) (y : Fin 256), i = ix2 r y := ⟨i 0, i 1, eq_ix2 i⟩
  unfold res_main_v24
  have hd : broadcastInDim S2048x256 ![0, 1] Facts₀.bcast_S2048x1_S2048x256_0_1
      (broadcastInDim S2048x1 ![0] Facts₀.bcast_S2048_S2048x1_0 (sitofp .f32 (V (Proc.devRef .tc main_arg1)) : FVec Ideal S2048 .f32)) (ix2 r y)
      = ((1 : ℝ) : EReal) := by
    refine (bcRows _ _ _ r y).trans ?_
    show (((V (Proc.devRef .tc main_arg1) (ix1 r) : BitVec 32).toInt : ℝ) : EReal) = _
    rw [h1]
    norm_num
  refine (congrArg₂ Ideal.div (sums_at V h1 _ r y) hd).trans ?_
  rw [Ideal.div_coe one_ne_zero]
  norm_num

end Cert.Segments

end
-- ==== Proof.ReferenceSide.lean ====
/- The reference's result read at an index: each of its two branches is the two-pass formula over the segment means. -/
module

public import proofs.«01_k».proof.Proof.Segments
public import proofs.«01_k».proof.Proof.Formula
public import Idealize.ShloMosaic.Lib.MatmulPlain

@[expose] public section

set_option maxRecDepth 16384

noncomputable section

namespace Cert.ReferenceSide

open Idealize.ShloMosaic Idealize.ShloMosaic.ValueIdx Idealize.ShloMosaic.Routing
open Cert.ReferenceIdeal Cert.ReferenceIdeal.Gen Cert.ReferenceIdeal.Value Cert.Segments Cert.Norm Cert.Formula

/-! ## The branch, in the reference's operations -/

/-- A vector repeated down the rows. -/
def downRows (v : FVec Ideal S1024 .f32) : FVec Ideal S2048x1024 .f32 :=
  broadcastInDim S2048x1024 ![0, 1] Facts₀.bcast_S1x1024_S2048x1024_0_1 (broadcastInDim S1x1024 ![1] Facts₀.bcast_S1024_S1x1024_1 v)

/-- The mean of each column: its sum over the number of rows. -/
def meanR (h : FVec Ideal S2048x1024 .f32) : FVec Ideal S1024 .f32 :=
  Host.divf (Host.reduceAdd h (constant S_ .f32 0x00000000#32) Facts₀.reducesTo_S2048x1024_S1024_d0 Facts₀.h_S_)
    (broadcastInDim S1024 ![] Facts₀.bcast_S_S1024 (constant S_ .f32 0x45000000#32))

/-- The distance of each entry from its column's mean. -/
def distR (h : FVec Ideal S2048x1024 .f32) : FVec Ideal S2048x1024 .f32 := subf h (downRows (meanR h))

/-- The hidden layer: the distances over the root of the variance, scaled and shifted, positive part. -/
def hiddenR (h : FVec Ideal S2048x1024 .f32) (g b : FVec Ideal S1024 .f32) : FVec Ideal S2048x1024 .f32 :=
  maximumf (addf (mulf (Host.divf (distR h) (downRows (Host.sqrt (addf (meanR (mulf (distR h) (distR h)))
    (broadcastInDim S1024 ![] Facts₀.bcast_S_S1024 (constant S_ .f32 0x3727C5AC#32)))))) (downRows g)) (downRows b))
    (broadcastInDim S2048x1024 ![] Facts₀.bcast_S_S2048x1024 (constant S_ .f32 0x00000000#32))

/-- The branch: product, hidden layer, product, positive part. -/
def branchR (x : FVec Ideal S2048x256 .f32) (w : FVec Ideal S256x1024 .f32) (g b : FVec Ideal S1024 .f32) (w' : FVec Ideal S1024x256 .f32) :
    FVec Ideal S2048x256 .f32 :=
  maximumf (Host.dotGeneral dot_S2048x1024_S1024x256_S2048x256_1_0_0_1_n_n none
      (hiddenR (Host.dotGeneral dot_S2048x256_S256x1024_S2048x1024_1_0_0_1_n_n none x w) g b) w')
    (broadcastInDim S2048x256 ![] Facts₀.bcast_S_S2048x256 (constant S_ .f32 0x00000000#32))

/-- The logistic function as the reference spells it: one over one plus the exponential of the negative. -/
def logisticR (x : FVec Ideal S2048x256 .f32) : FVec Ideal S2048x256 .f32 :=
  Host.divf (broadcastInDim S2048x256 ![] Facts₀.bcast_S_S2048x256 (constant S_ .f32 0x3F800000#32))
    (addf (broadcastInDim S2048x256 ![] Facts₀.bcast_S_S2048x256 (constant S_ .f32 0x3F800000#32)) (Host.exp (Host.negf x)))

/-- A lookup of rows through the segment numbers. -/
def bySegment (V : Valuation τ sig (Elt Ideal)) (x : FVec Ideal S2048x256 .f32) : FVec Ideal S2048x256 .f32 :=
  Host.gather gather_S2048x256_S2048x1_S2048x256_1_0_n_n_0_1_1256 x
    (broadcastInDim S2048x1 ![0] Facts₀.bcast_S2048_S2048x1_0 (wrapped (res_main_v17 V)))

/-- The reference's result in these pieces. -/
def resultR (V : Valuation τ sig (Elt Ideal)) : FVec Ideal S2048x256 .f32 :=
  addf (addf (mulf (mulf (bySegment V (logisticR (branchR (res_main_v24 V) (V (Proc.devRef .tc main_arg6)) (V (Proc.devRef .tc main_arg7))
        (V (Proc.devRef .tc main_arg8)) (V (Proc.devRef .tc main_arg9))))) (V (Proc.devRef .tc main_arg0)))
      (broadcastInDim S2048x256 ![] Facts₀.bcast_S_S2048x256 (constant S_ .f32 0x3F000000#32)))
      (mulf (V (Proc.devRef .tc main_arg0)) (broadcastInDim S2048x256 ![] Facts₀.bcast_S_S2048x256 (constant S_ .f32 0x3F400000#32))))
    (bySegment V (branchR (res_main_v24 V) (V (Proc.devRef .tc main_arg2)) (V (Proc.devRef .tc main_arg3))
      (V (Proc.devRef .tc main_arg4)) (V (Proc.devRef .tc main_arg5))))

/-! ## The same, read at an index -/

/-- A product on the host, at an index. -/
theorem product {M K N : Nat} (lhs : FVec Ideal (shape2 M K) .f32) (rhs : FVec Ideal (shape2 K N) .f32) (r : Fin M) (c : Fin N) :
    Host.dotGeneral (DotDims.plain M K N) none lhs rhs (ix2 r c) = ∑ k : Fin K, lhs (ix2 r k) * rhs (ix2 k c) := by
  refine (Ideal.matmul_plain_apply none lhs rhs (fun _ => (0 : EReal)) r c).trans ?_
  rw [zero_add]

/-- A repeated vector reads its entry. -/
theorem downRows_at (v : FVec Ideal S1024 .f32) (n : Fin 2048) (j : Fin 1024) : downRows v (ix2 n j) = v (ix1 j) := bcCols _ _ v n j

/-- A column's mean at an index. -/
theorem meanR_at (h : FVec Ideal S2048x1024 .f32) (j : Fin 1024) : meanR h (ix1 j) = mean fun n => h (ix2 n j) := by
  refine congrArg₂ Ideal.div ?_ (bc0 (s := S1024) _ _ _)
  refine (Ideal.hostReduceAdd_single Facts₀.reducesTo_S2048x1024_S1024_d0 (by decide : S2048x1024.Reduces [0] S1024) h _ (ix1 j)).trans ?_
  refine congrArg₂ (· + ·) Ideal.ofBits_zero_f32 (Finset.sum_congr rfl fun i _ => congrArg h (funext fun a => ?_))
  match a with
  | ⟨0, _⟩ => rfl
  | ⟨1, _⟩ => rfl

/-- A distance from the mean at an index. -/
theorem distR_at (h : FVec Ideal S2048x1024 .f32) (n : Fin 2048) (j : Fin 1024) :
    distR h (ix2 n j) = h (ix2 n j) - mean fun i => h (ix2 i j) :=
  congrArg (h (ix2 n j) - ·) ((downRows_at _ n j).trans (meanR_at h j))

/-- The hidden layer at an index: the positive part of the two-pass normalisation of its column. -/
theorem hiddenR_at (h : FVec Ideal S2048x1024 .f32) (g b : FVec Ideal S1024 .f32) (n : Fin 2048) (j : Fin 1024) :
    hiddenR h g b (ix2 n j) = max (twoPass (fun i => h (ix2 i j)) (g (ix1 j)) (b (ix1 j)) n) 0 := by
  refine congrArg₂ max (congrArg₂ (· + ·) (congrArg₂ (· * ·) (congrArg₂ Ideal.div (distR_at h n j) ((downRows_at _ n j).trans
    (congrArg Ideal.sqrt (congrArg₂ (· + ·) ((meanR_at _ j).trans ?_) (bc0 (s := S1024) _ _ _))))) (downRows_at g n j)) (downRows_at b n j))
    ((bc0 (s := S2048x1024) _ _ _).trans Ideal.ofBits_zero_f32)
  refine congrArg (fun f => Ideal.div (0 + f) (Ideal.ofBits .f32 0x45000000#32)) (Finset.sum_congr rfl fun i _ => ?_)
  exact congrArg₂ (· * ·) (distR_at h i j) (distR_at h i j)

/-- A branch of the reference at an index is the reference's branch formula. -/
theorem branchR_at (x : FVec Ideal S2048x256 .f32) (w : FVec Ideal S256x1024 .f32) (g b : FVec Ideal S1024 .f32)
    (w' : FVec Ideal S1024x256 .f32) (n : Fin 2048) (c : Fin 256) :
    branchR x w g b w' (ix2 n c) = referenceBranch x w g b w' n c := by
  refine congrArg₂ max ((product _ w' n c).trans ?_) ((bc0 (s := S2048x256) _ _ _).trans Ideal.ofBits_zero_f32)
  refine Finset.sum_congr rfl fun j _ => congrArg (· * w' (ix2 j c)) ((hiddenR_at _ g b n j).trans ?_)
  exact congrArg (fun f => max (twoPass f (g (ix1 j)) (b (ix1 j)) n) 0) (funext fun i => product x w i j)

/-- The reference's logistic function is the logistic function. -/
theorem logisticR_at (x : FVec Ideal S2048x256 .f32) (n : Fin 2048) (c : Fin 256) :
    logisticR x (ix2 n c) = Ideal.logistic (x (ix2 n c)) := by
  have h1 : broadcastInDim S2048x256 ![] Facts₀.bcast_S_S2048x256 (constant S_ .f32 0x3F800000#32 : FVec Ideal S_ .f32) (ix2 n c) = (1 : EReal) :=
    (bc0 (s := S2048x256) _ _ _).trans Ideal.ofBits_one_f32
  exact congrArg₂ Ideal.div h1 (congrArg (· + Ideal.exp (-(x (ix2 n c)))) h1)

variable (V : Valuation τ sig (Elt Ideal)) (h1 : ∀ i, V (Proc.devRef .tc main_arg1) i = 1#32)
include h1

/-- A lookup by segment reads the array where it stands. -/
theorem bySegment_at (x : FVec Ideal S2048x256 .f32) (n : Fin 2048) (c : Fin 256) : bySegment V x (ix2 n c) = x (ix2 n c) :=
  rows_at V h1 x n c

/-- WHAT THE REFERENCE RETURNS at an index, when every segment has one point: half the logistic of the weight branch times the
    features, plus three quarters of the features, plus the mean branch, both branches over the features themselves. -/
theorem resultR_at (x : FVec Ideal S2048x256 .f32) (hx : V (Proc.devRef .tc main_arg0) = x) (n : Fin 2048) (c : Fin 256) :
    resultR V (ix2 n c)
      = Ideal.logistic (referenceBranch x (V (Proc.devRef .tc main_arg6)) (V (Proc.devRef .tc main_arg7)) (V (Proc.devRef .tc main_arg8))
            (V (Proc.devRef .tc main_arg9)) n c) * x (ix2 n c) * Ideal.ofBits .f32 0x3F000000#32
          + x (ix2 n c) * Ideal.ofBits .f32 0x3F400000#32
        + referenceBranch x (V (Proc.devRef .tc main_arg2)) (V (Proc.devRef .tc main_arg3)) (V (Proc.devRef .tc main_arg4))
            (V (Proc.devRef .tc main_arg5)) n c := by
  have hm : res_main_v24 V = x := (funext fun i => means V h1 i).trans hx
  unfold resultR
  rw [hm, hx]
  refine congrArg₂ (· + ·) (congrArg₂ (· + ·) (congrArg₂ (· * ·) (congrArg (· * x (ix2 n c)) ?_) (bc0 (s := S2048x256) _ _ _))
    (congrArg (x (ix2 n c) * ·) (bc0 (s := S2048x256) _ _ _))) ?_
  · exact (bySegment_at V h1 _ n c).trans ((logisticR_at _ n c).trans (congrArg Ideal.logistic (branchR_at _ _ _ _ _ n c)))
  · exact (bySegment_at V h1 _ n c).trans (branchR_at _ _ _ _ _ n c)

end Cert.ReferenceSide

end
-- ==== Proof.Equation.lean ====
/- The equation of the two programs' results: where every count is one and the features, first weights and scales are finite. -/
module

public import proofs.«01_k».proof.Proof.Gen.KernelIdeal.Value
public import proofs.«01_k».proof.Proof.KernelSide
public import proofs.«01_k».proof.Proof.ReferenceSide

@[expose] public section

set_option maxRecDepth 16384

noncomputable section

namespace Cert.Equation

open Idealize.ShloMosaic Idealize.ShloMosaic.ValueIdx Idealize.ShloMosaic.Routing
open Cert.Formula

/-- THE EQUATION. The reference's result, from arrays whose counts are all one and whose features, first weights and scales
    are real, is the kernel's function of the same arrays: at every index both are the same mix of the same two branches,
    a branch by one pass over each column being the branch by two passes. -/
theorem results_eq (V : Valuation Cert.ReferenceIdeal.τ Cert.ReferenceIdeal.sig (Elt Ideal))
    (x : Mat 2048 256) (w v : Mat 256 1024) (g b g' b' : Row 1024) (w' v' : Mat 1024 256)
    (h1 : ∀ i, V (Proc.devRef .tc Cert.ReferenceIdeal.main_arg1) i = 1#32)
    (hx : Real x) (hw : Real w) (hg : Real g) (hv : Real v) (hg' : Real g')
    (e0 : V (Proc.devRef .tc Cert.ReferenceIdeal.main_arg0) = x) (e2 : V (Proc.devRef .tc Cert.ReferenceIdeal.main_arg2) = w)
    (e3 : V (Proc.devRef .tc Cert.ReferenceIdeal.main_arg3) = g) (e4 : V (Proc.devRef .tc Cert.ReferenceIdeal.main_arg4) = b)
    (e5 : V (Proc.devRef .tc Cert.ReferenceIdeal.main_arg5) = w') (e6 : V (Proc.devRef .tc Cert.ReferenceIdeal.main_arg6) = v)
    (e7 : V (Proc.devRef .tc Cert.ReferenceIdeal.main_arg7) = g') (e8 : V (Proc.devRef .tc Cert.ReferenceIdeal.main_arg8) = b')
    (e9 : V (Proc.devRef .tc Cert.ReferenceIdeal.main_arg9) = v') :
    Cert.ReferenceSide.resultR V = Cert.KernelIdeal.Value.G9 (F := Ideal) x w g b w' v g' b' v' := by
  funext i
  obtain ⟨n, c, rfl⟩ : ∃ (n : Fin 2048) (c : Fin 256), i = ix2 n c := ⟨i 0, i 1, eq_ix2 i⟩
  refine (Cert.ReferenceSide.resultR_at V h1 x e0 n c).trans (.trans ?_ (Cert.KernelSide.stored_at x w g b w' v g' b' v' n c).symm)
  rw [e2, e3, e4, e5, e6, e7, e8, e9, kernelBranch_eq x w g b w' hx hw hg n c, kernelBranch_eq x v g' b' v' hx hv hg' n c]
  obtain ⟨r, hr⟩ := hx (ix2 n c)
  rw [hr]
  exact (Cert.Norm.mix r _ _).symm

end Cert.Equation

end
-- ==== Proof.Finite.lean ====
/- What the precondition says: every count is one, and the features, both first weights and both scales are finite. -/
module

public import proofs.«01_k».proof.Defs
public import proofs.«01_k».proof.Proof.Formula
public import proofs.«01_k».proof.Proof.Gen.Pre_ones_and_finite
public import Idealize.ShloMosaic.Lib.ReduceAll
public import Idealize.ShloMosaic.Lib.WordCmp

@[expose] public section

set_option maxRecDepth 16384

noncomputable section

namespace Cert.Finite

open Idealize.ShloMosaic Idealize.ShloMosaic.Routing
open Cert.Pre_ones_and_finite Cert.Formula

/-- The pattern of positive infinity reads as the top extended real. -/
theorem infinity : Ideal.ofBits .f32 0x7F800000#32 = (⊤ : EReal) := by simp [Ideal.ofBits, Ideal.ieee]

/-- An extended real whose absolute value is below infinity is a real number. -/
theorem real_of_abs (a : EReal) (h : FloatOps.cmpf (F := Ideal) (φ := .f32) .olt (FloatOps.absf (F := Ideal) (φ := .f32) a) (Ideal.ofBits .f32 0x7F800000#32) = 1#1) :
    ∃ r : ℝ, a = r := by
  rw [Ideal.cmpf_def, Ideal.absf_def, infinity] at h
  have hlt : max a (-a) < ⊤ := by
    by_contra hn
    simp [Ideal.cmp, hn] at h
  induction a using EReal.rec with
  | bot => simp at hlt
  | coe r => exact ⟨r, rfl⟩
  | top => simp at hlt

/-- There is one index of a scalar. -/
instance : Subsingleton S_.Idx := ⟨fun a b => funext fun k => k.elim0⟩

/-- The printed finiteness test: where the conjunction over an array of "its absolute value is below infinity" is true, the
    array is real. -/
theorem real_of_all {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant S_ .f32 0x7F800000#32))) (constantI S_ 1 1#1) hr hu j = 1#1) :
    Real a := fun i =>
  real_of_abs (a i) (Host.reduce_andi_all _ _ _ _ j e i)

/-- Both operands of a true conjunction are true. -/
theorem both (a b : IVec S_ 1) (j : S_.Idx) (h : andi a b j = 1#1) : a j = 1#1 ∧ b j = 1#1 := by
  have h' : a j &&& b j = 1#1 := h
  generalize a j = x at h' ⊢
  generalize b j = y at h' ⊢
  revert x y
  decide

/-- THE PRECONDITION READ: the counts are all one; the features, the two first weights and the two scales are real. -/
theorem read (a0 : FVec Ideal S2048x256 .f32) (a1 : IVec S2048 32) (a2 : FVec Ideal S256x1024 .f32) (a3 a4 : FVec Ideal S1024 .f32)
    (a5 : FVec Ideal S1024x256 .f32) (a6 : FVec Ideal S256x1024 .f32) (a7 a8 : FVec Ideal S1024 .f32) (a9 : FVec Ideal S1024x256 .f32)
    (h : fn (F := Ideal) a0 a1 a2 a3 a4 a5 a6 a7 a8 a9 = fun _ => 1#1) :
    (∀ i, a1 i = 1#32) ∧ Real a0 ∧ Real a2 ∧ Real a3 ∧ Real a6 ∧ Real a7 := by
  let nil : S_.Idx := fun k => k.elim0
  obtain ⟨h, h7⟩ := both _ _ nil (congrFun h nil)
  obtain ⟨h, h6⟩ := both _ _ nil h
  obtain ⟨h, h3⟩ := both _ _ nil h
  obtain ⟨h, h2⟩ := both _ _ nil h
  obtain ⟨h1, h0⟩ := both _ _ nil h
  refine ⟨fun i => ?_, real_of_all a0 _ _ _ _ h0, real_of_all a2 _ _ _ _ h2, real_of_all a3 _ _ _ _ h3, real_of_all a6 _ _ _ _ h6,
    real_of_all a7 _ _ _ _ h7⟩
  have e := Host.reduce_andi_all _ _ _ _ nil h1 i
  exact IntOp.cmpi_eq.1 e

end Cert.Finite

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_ones_and_finite
public import proofs.«01_k».proof.Proof.Gen.ReferenceIdeal.Run
public import Idealize.ShloMosaic.Adequacy
public import Idealize.ShloMosaic.Init
public import Idealize.ShloMosaic.Lib.Quiescent
public import proofs.«01_k».proof.Proof.Equation
public import proofs.«01_k».proof.Proof.Finite

@[expose] public section

noncomputable section

namespace Cert.Proof

open Idealize.ShloMosaic Idealize.SL.Sem

/-- The reference runs from any memory, leaves its arguments unchanged and ends with every counter at zero. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition of the value claim. -/
theorem reference_quiescent_pre : quiescent_ReferenceIdeal_pre_ones_and_finite := fun m ρ _ => reference_quiescent m ρ trivial

/-- THE VALUE CLAIM: from memories agreeing on the arguments, in which every count is one and the features, the two first
    weights and the two scales are finite, the kernel and the reference end with equal results. -/
theorem algebraic : algebraic_KernelIdeal_ReferenceIdeal_pre_ones_and_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h1, hx, hw, hg, hv, hg'⟩ := Cert.Finite.read _ _ _ _ _ _ _ _ _ _ (hpre c)
  obtain ⟨e0, e1, e2, e3, e4, e5, e6, e7, e8, e9⟩ := hagree c
  exact Cert.Equation.results_eq _ _ _ _ _ _ _ _ _ _ (fun i => (congrFun e1 i).trans (h1 i)) hx hw hg hv hg' e0 e2 e3 e4 e5 e6 e7 e8 e9

/-- The five claims. -/
theorem claim : Cert.Claim := ⟨Cert.Kernel.Gen.facts, Cert.KernelIdeal.Gen.facts, Cert.ReferenceIdeal.Gen.facts, Cert.Pre_ones_and_finite.Gen.facts,
  fun m ρ _ => Cert.Kernel.Gen.frame m ρ, fun m ρ _ => Cert.KernelIdeal.Gen.frame m ρ, fun m ρ _ => Cert.KernelIdeal.Gen.frame m ρ,
  reference_quiescent, reference_quiescent_pre, (trivial : preserves_Kernel_KernelIdeal), algebraic⟩

end Cert.Proof

end
